-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ids_in_table [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ids_in_table [hKernelIdeal : Cert.KernelIdeal.Facts] [hReferenceIdeal : Cert.ReferenceIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_in_table : Cert.Pre_ids_in_table.Facts),
    quiescent_Kernel (hKernel := hKernel)
    ∧ quiescent_KernelIdeal (hKernelIdeal := hKernelIdeal)
    ∧ quiescent_KernelIdeal_pre_ids_in_table (hKernelIdeal := hKernelIdeal) (hPre_ids_in_table := hPre_ids_in_table)
    ∧ quiescent_ReferenceIdeal (hReferenceIdeal := hReferenceIdeal)
    ∧ quiescent_ReferenceIdeal_pre_ids_in_table (hReferenceIdeal := hReferenceIdeal) (hPre_ids_in_table := hPre_ids_in_table)
    ∧ preserves_Kernel_KernelIdeal
    ∧ algebraic_KernelIdeal_ReferenceIdeal_pre_ids_in_table (hKernelIdeal := hKernelIdeal) (hReferenceIdeal := hReferenceIdeal) (hPre_ids_in_table := hPre_ids_in_table)
-- ==== Pre_ids_in_table.lean ====
abbrev S2048x128x34 : Shape := ⟨3, ![2048, 128, 34]⟩
abbrev S1001x256 : Shape := ⟨2, ![1001, 256]⟩
abbrev S256x1 : Shape := ⟨2, ![256, 1]⟩
abbrev S256x32 : Shape := ⟨2, ![256, 32]⟩
abbrev S256 : Shape := ⟨1, ![256]⟩
abbrev S2048x128x1 : Shape := ⟨3, ![2048, 128, 1]⟩
abbrev S2048x128 : Shape := ⟨2, ![2048, 128]⟩
abbrev S_ : Shape := ⟨0, ![]⟩

class Facts : Prop where
  slices_S2048x128x34_S2048x128x1_0_0_0 : S2048x128x34.Slices ![0, 0, 0] S2048x128x1
  shapeCasts_S2048x128x1_S2048x128 : S2048x128x1.ShapeCasts S2048x128
  bcast_S_S2048x128 : S_.BroadcastsInDim S2048x128 (![] : Fin 0 → Fin S2048x128.rank)
  bcast_S_S256x1 : S_.BroadcastsInDim S256x1 (![] : Fin 0 → Fin S256x1.rank)

variable [Facts]

def fn {F : FTy → Type} [FloatOps F] (main_arg0 : FVec F S2048x128x34 .f32) (main_arg1 : FVec F S1001x256 .f32) (main_arg2 : FVec F S256x1 .f32) (main_arg3 : FVec F S256x32 .f32) (main_arg4 : FVec F S256 .f32) : IVec S2048x128 1 × IVec S256x1 1 :=
  let main_v0 : FVec F S2048x128x1 .f32 := (extractStridedSlice S2048x128x1 ![0, 0, 0] · slices_S2048x128x34_S2048x128x1_0_0_0) main_arg0
  let main_v1 : FVec F S2048x128 .f32 := shapeCast S2048x128 main_v0 shapeCasts_S2048x128x1_S2048x128
  let main_v2 : IVec S2048x128 32 := fptosi 32 main_v1
  let main_c : IVec S_ 32 := constantI S_ 32 0#32
  let main_v3 : IVec S2048x128 32 := broadcastInDim S2048x128 ![] bcast_S_S2048x128 main_c
  let main_v4 : IVec S2048x128 1 := cmpi .sge main_v2 main_v3
  let main_c_0 : IVec S_ 32 := constantI S_ 32 1001#32
  let main_v5 : IVec S2048x128 32 := broadcastInDim S2048x128 ![] bcast_S_S2048x128 main_c_0
  let main_v6 : IVec S2048x128 1 := cmpi .slt main_v2 main_v5
  let main_v7 : IVec S2048x128 1 := andi main_v4 main_v6
  let main_cst : FVec F S_ .f32 := constant S_ .f32 0xFF800000#32
  let main_v8 : FVec F S256x1 .f32 := broadcastInDim S256x1 ![] bcast_S_S256x1 main_cst
  let main_v9 : IVec S256x1 1 := cmpf .ogt main_arg2 main_v8
  let main_cst_1 : FVec F S_ .f32 := constant S_ .f32 0x7F800000#32
  let main_v10 : FVec F S256x1 .f32 := broadcastInDim S256x1 ![] bcast_S_S256x1 main_cst_1
  let main_v11 : IVec S256x1 1 := cmpf .olt main_arg2 main_v10
  let main_v12 : IVec S256x1 1 := andi main_v9 main_v11
  (main_v7, main_v12)
-- ==== Kernel.lean ====
abbrev S2048x128x34 : Shape := ⟨3, ![2048, 128, 34]⟩
abbrev S1001x256 : Shape := ⟨2, ![1001, 256]⟩
abbrev S256x1 : Shape := ⟨2, ![256, 1]⟩
abbrev S256x32 : Shape := ⟨2, ![256, 32]⟩
abbrev S256 : Shape := ⟨1, ![256]⟩
abbrev S_ : Shape := ⟨0, ![]⟩
abbrev S1x256 : Shape := ⟨2, ![1, 256]⟩
abbrev S32x256 : Shape := ⟨2, ![32, 256]⟩
abbrev S34x256 : Shape := ⟨2, ![34, 256]⟩
abbrev S2048x128x256 : Shape := ⟨3, ![2048, 128, 256]⟩
abbrev S8x128x34 : Shape := ⟨3, ![8, 128, 34]⟩
abbrev S8x128x256 : Shape := ⟨3, ![8, 128, 256]⟩
abbrev S1024x256 : Shape := ⟨2, ![1024, 256]⟩
abbrev S1002x256 : Shape := ⟨2, ![1002, 256]⟩
abbrev S23x256 : Shape := ⟨2, ![23, 256]⟩
abbrev S24x256 : Shape := ⟨2, ![24, 256]⟩
abbrev S8x128x1 : Shape := ⟨3, ![8, 128, 1]⟩
abbrev S8x128 : Shape := ⟨2, ![8, 128]⟩
abbrev S8x128x1024 : Shape := ⟨3, ![8, 128, 1024]⟩
abbrev S1x1x256 : Shape := ⟨3, ![1, 1, 256]⟩

abbrev nBuf : Space → Nat
  | .hbm => 24
  | .vmem => 8
  | .smem => 0
  | _ => 0

abbrev bufTy : (tb : Table) → Fin (tcTables nBuf tb) → BufTy
  | .hbm, ⟨0, _⟩ => ⟨S2048x128x34, .f32⟩
  | .hbm, ⟨1, _⟩ => ⟨S1001x256, .f32⟩
  | .hbm, ⟨2, _⟩ => ⟨S256x1, .f32⟩
  | .hbm, ⟨3, _⟩ => ⟨S256x32, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S1x256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S1x256, .f32⟩
  | .hbm, ⟨12, _⟩ => ⟨S32x256, .f32⟩
  | .hbm, ⟨13, _⟩ => ⟨S34x256, .f32⟩
  | .hbm, ⟨14, _⟩ => ⟨S34x256, .bf16⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S2048x128x256, .f32⟩
  | .local _ .vmem, ⟨0, _⟩ => ⟨S8x128x34, .f32⟩
  | .local _ .vmem, ⟨1, _⟩ => ⟨S8x128x34, .f32⟩
  | .local _ .vmem, ⟨2, _⟩ => ⟨S1001x256, .f32⟩
  | .local _ .vmem, ⟨3, _⟩ => ⟨S34x256, .bf16⟩
  | .local _ .vmem, ⟨4, _⟩ => ⟨S1x256, .f32⟩
  | .local _ .vmem, ⟨5, _⟩ => ⟨S8x128x256, .f32⟩
  | .local _ .vmem, ⟨6, _⟩ => ⟨S8x128x256, .f32⟩
  | .local _ .vmem, ⟨7, _⟩ => ⟨S1024x256, .bf16⟩
  | _, _ => ⟨S2048x128x34, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1001x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S34x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2048x128x34 : Shape := ⟨3, ![2048, 128, 34]⟩
abbrev S1001x256 : Shape := ⟨2, ![1001, 256]⟩
abbrev S256x1 : Shape := ⟨2, ![256, 1]⟩
abbrev S256x32 : Shape := ⟨2, ![256, 32]⟩
abbrev S256 : Shape := ⟨1, ![256]⟩
abbrev S2048x128x1 : Shape := ⟨3, ![2048, 128, 1]⟩
abbrev S2048x128 : Shape := ⟨2, ![2048, 128]⟩
abbrev S_ : Shape := ⟨0, ![]⟩
abbrev S1 : Shape := ⟨1, ![1]⟩
abbrev S1x1x1 : Shape := ⟨3, ![1, 1, 1]⟩
abbrev S2048x128x256 : Shape := ⟨3, ![2048, 128, 256]⟩
abbrev S2048x128x32 : Shape := ⟨3, ![2048, 128, 32]⟩
abbrev S1x1x256 : Shape := ⟨3, ![1, 1, 256]⟩

abbrev nBuf : Space → Nat
  | .hbm => 49
  | .vmem => 0
  | .smem => 0
  | _ => 0

abbrev bufTy : (tb : Table) → Fin (tcTables nBuf tb) → BufTy
  | .hbm, ⟨0, _⟩ => ⟨S2048x128x34, .f32⟩
  | .hbm, ⟨1, _⟩ => ⟨S1001x256, .f32⟩
  | .hbm, ⟨2, _⟩ => ⟨S256x1, .f32⟩
  | .hbm, ⟨3, _⟩ => ⟨S256x32, .f32⟩
  | .hbm, ⟨4, _⟩ => ⟨S256, .f32⟩
  | .hbm, ⟨5, _⟩ => ⟨S2048x128x1, .f32⟩
  | .hbm, ⟨6, _⟩ => ⟨S2048x128, .f32⟩
  | .hbm, ⟨7, _⟩ => ⟨S2048x128, .i32⟩
  | .hbm, ⟨8, _⟩ => ⟨S_, .i32⟩
  | .hbm, ⟨9, _⟩ => ⟨S2048x128, .i32⟩
  | .hbm, ⟨10, _⟩ => ⟨S2048x128, .i1⟩
  | .hbm, ⟨11, _⟩ => ⟨S_, .i32⟩
  | .hbm, ⟨12, _⟩ => ⟨S2048x128, .i32⟩
  | .hbm, ⟨13, _⟩ => ⟨S2048x128, .i32⟩
  | .hbm, ⟨14, _⟩ => ⟨S2048x128, .i32⟩
  | .hbm, ⟨15, _⟩ => ⟨S2048x128x1, .i32⟩
  | .hbm, ⟨16, _⟩ => ⟨S1, .i32⟩
  | .hbm, ⟨17, _⟩ => ⟨S_, .i32⟩
  | .hbm, ⟨18, _⟩ => ⟨S2048x128x1, .i32⟩
  | .hbm, ⟨19, _⟩ => ⟨S2048x128x1, .i1⟩
  | .hbm, ⟨20, _⟩ => ⟨S1x1x1, .i32⟩
  | .hbm, ⟨21, _⟩ => ⟨S2048x128x1, .i32⟩
  | .hbm, ⟨22, _⟩ => ⟨S2048x128x1, .i1⟩
  | .hbm, ⟨23, _⟩ => ⟨S2048x128x1, .i1⟩
  | .hbm, ⟨24, _⟩ => ⟨S_, .i1⟩
  | .hbm, ⟨25, _⟩ => ⟨S2048x128, .i1⟩
  | .hbm, ⟨26, _⟩ => ⟨S2048x128x256, .f32⟩
  | .hbm, ⟨27, _⟩ => ⟨S2048x128x256, .i1⟩
  | .hbm, ⟨28, _⟩ => ⟨S_, .f32⟩
  | .hbm, ⟨29, _⟩ => ⟨S2048x128x256, .f32⟩
  | .hbm, ⟨30, _⟩ => ⟨S2048x128x256, .f32⟩
  | .hbm, ⟨31, _⟩ => ⟨S2048x128x1, .f32⟩
  | .hbm, ⟨32, _⟩ => ⟨S_, .f32⟩
  | .hbm, ⟨33, _⟩ => ⟨S2048x128x1, .f32⟩
  | .hbm, ⟨34, _⟩ => ⟨S2048x128x1, .f32⟩
  | .hbm, ⟨35, _⟩ => ⟨S_, .f32⟩
  | .hbm, ⟨36, _⟩ => ⟨S2048x128x1, .f32⟩
  | .hbm, ⟨37, _⟩ => ⟨S2048x128x1, .f32⟩
  | .hbm, ⟨38, _⟩ => ⟨S2048x128x256, .f32⟩
  | .hbm, ⟨39, _⟩ => ⟨S2048x128x256, .f32⟩
  | .hbm, ⟨40, _⟩ => ⟨S2048x128x32, .f32⟩
  | .hbm, ⟨41, _⟩ => ⟨S_, .f32⟩
  | .hbm, ⟨42, _⟩ => ⟨S2048x128x32, .f32⟩
  | .hbm, ⟨43, _⟩ => ⟨S2048x128x32, .f32⟩
  | .hbm, ⟨44, _⟩ => ⟨S2048x128x256, .f32⟩
  | .hbm, ⟨45, _⟩ => ⟨S2048x128x256, .f32⟩
  | .hbm, ⟨46, _⟩ => ⟨S1x1x256, .f32⟩
  | .hbm, ⟨47, _⟩ => ⟨S2048x128x256, .f32⟩
  | .hbm, ⟨48, _⟩ => ⟨S2048x128x256, .f32⟩
  | _, _ => ⟨S2048x128x34, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩

abbrev nD : Nat := 1
abbrev τ : Topo := Topo.v7x

variable {F : FTy → Type} [FloatOps F]
-- ==== Proof.KernelIdealBody.lean ====
module

public import proofs.«01_k».proof.Proof.Gen.KernelIdeal.Frame
public import proofs.«01_k».proof.Proof.Gen.KernelIdeal.Skeleton
public import Idealize.ShloMosaic.Lib.VecWindow
public import Idealize.ShloMosaic.Lib.ValueIdxCore
public import Idealize.ShloMosaic.Lib.WholeRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The body's own test that it runs at the first grid point. -/
abbrev AtFirst (i : grid0.Coords) : Prop :=
  (Scalar.cmpi .ne (Scalar.extui (Scalar.cmpi .eq (BitVec.ofNat 32 (i 0).val) 0#32)) 0#32) = 1#1

/-- The table the kernel keeps in scratch: the 1001 embedding rows, then 23 rows of zeros. -/
def table (x1 : Vec F S1001x256 .f32) : Vec F S1024x256 .bf16 := fun y =>
  if h : (y 0).val < 1001 then k0_pay1 x1 (ix2 ⟨(y 0).val, h⟩ ⟨(y 1).val, (y 1).isLt⟩)
  else k0_pay2 (F := F) (ix2 ⟨(y 0).val - 1001, by have : (y 0).val < 1024 := (y 0).isLt; omega⟩ ⟨(y 1).val, (y 1).isLt⟩)

section Scratch

variable {sg : RefSig} {κ : Kind} {sp : Space} (v : View sg κ sp S1024x256 .bf16) (f : v.ty.Contents (Elt F)) (x1 : Vec F S1001x256 .f32)

/-- The first store of the first point: rows 0 to 1001 written, the embedding's rows over the old ones (row 1001 kept). -/
abbrev lowPiece (old : S1002x256.Idx → Elt F .bf16) : View.Piece (Elt F) S1024x256 .bf16 :=
  ⟨Rect.unit (s := S1024x256) ![0, 0] S1002x256.size inb_S1024x256_S1002x256_0_0,
    updateSlice old (k0_pay1 x1) ![0, 0] slices_S1002x256_S1001x256_0_0⟩

/-- The second store of the first point: rows 1000 to 1023 written, zeros over the old ones (row 1000 kept). -/
abbrev highPiece (old : S24x256.Idx → Elt F .bf16) : View.Piece (Elt F) S1024x256 .bf16 :=
  ⟨Rect.unit (s := S1024x256) ![1000, 0] S24x256.size inb_S1024x256_S24x256_1000_0,
    updateSlice old (k0_pay2 (F := F)) ![1, 0] slices_S24x256_S23x256_1_0⟩

/-- After the first store the rows below 1001 are the embedding's. -/
theorem read_low (old : S1002x256.Idx → Elt F .bf16) (y : S1024x256.Idx) (h : (y 0).val < 1001) (h1 : (y 1).val < 256) :
    v.read (Elt F) (v.writes (Elt F) f [lowPiece x1 old]) y = k0_pay1 x1 (ix2 ⟨(y 0).val, h⟩ ⟨(y 1).val, h1⟩) := by
  refine (View.read_writes_cons_unit_of_mem v f (off' := ![0, 0]) inb_S1024x256_S1002x256_0_0 _ [] y
    (ix2 ⟨(y 0).val, by omega⟩ ⟨(y 1).val, h1⟩ : S1002x256.Idx) rfl
    (Fin.forall_fin_two.mpr ⟨(Nat.zero_add _).symm, (Nat.zero_add _).symm⟩)).trans ?_
  unfold updateSlice
  refine (dif_pos (Fin.forall_fin_two.mpr ⟨⟨Nat.zero_le _, ?_⟩, ⟨Nat.zero_le _, ?_⟩⟩)).trans ?_
  · exact congrArg (k0_pay1 x1) (funext fun a => match a with | ⟨0, _⟩ => rfl | ⟨1, _⟩ => rfl)
  · show (y 0).val < 0 + 1001; omega
  · show (y 1).val < 0 + 256; omega

/-- The two stores read back. Whatever the scratch held before, the rows below 1001 are then the embedding's and the
    others are zeros, provided the second store keeps row 1000 as the first one wrote it. -/
theorem read_table (old : S1002x256.Idx → Elt F .bf16) (old' : S24x256.Idx → Elt F .bf16)
    (hold : ∀ j : Fin 256, old' (ix2 (0 : Fin 24) j) = k0_pay1 x1 (ix2 (1000 : Fin 1001) j)) :
    v.read (Elt F) (v.writes (Elt F) f [highPiece old', lowPiece x1 old]) = table x1 := by
  funext y
  have h0 : (y 0).val < 1024 := (y 0).isLt
  have h1 : (y 1).val < 256 := (y 1).isLt
  by_cases hm : 1000 ≤ (y 0).val
  · refine (View.read_writes_cons_unit_of_mem v f (off' := ![1000, 0]) inb_S1024x256_S24x256_1000_0 _ _ y
      (ix2 ⟨(y 0).val - 1000, by omega⟩ ⟨(y 1).val, h1⟩ : S24x256.Idx) rfl
      (Fin.forall_fin_two.mpr ⟨by show (y 0).val = 1000 + ((y 0).val - 1000); omega, (Nat.zero_add _).symm⟩)).trans ?_
    unfold updateSlice table
    by_cases h : (y 0).val < 1001
    · have e : (y 0).val = 1000 := by omega
      refine (dif_neg (fun hall => ?_)).trans (Eq.trans ?_ (dif_pos h).symm)
      · have : 1 ≤ (y 0).val - 1000 := (hall 0).1
        omega
      · refine Eq.trans (congrArg old' ?_) ((hold ⟨(y 1).val, h1⟩).trans (congrArg (k0_pay1 x1) ?_))
        · funext a; exact Fin.ext (match a with | ⟨0, _⟩ => by show (y 0).val - 1000 = 0; omega | ⟨1, _⟩ => rfl)
        · funext a; exact Fin.ext (match a with | ⟨0, _⟩ => e.symm | ⟨1, _⟩ => rfl)
    · refine (dif_pos (Fin.forall_fin_two.mpr ⟨⟨?_, ?_⟩, ⟨Nat.zero_le _, ?_⟩⟩)).trans (Eq.trans ?_ (dif_neg h).symm)
      · refine congrArg (k0_pay2 (F := F)) ?_
        funext a; exact Fin.ext (match a with | ⟨0, _⟩ => by show (y 0).val - 1000 - 1 = (y 0).val - 1001; omega | ⟨1, _⟩ => rfl)
      · show 1 ≤ (y 0).val - 1000; omega
      · show (y 0).val - 1000 < 1 + 23; omega
      · show (y 1).val < 0 + 256; omega
  · refine (View.read_writes_cons_unit_of_not_mem v f (off' := ![1000, 0]) inb_S1024x256_S24x256_1000_0 _ _ y rfl (0 : Fin 2)
      (Or.inl ?_)).trans ?_
    · show (y 0).val < 1000; omega
    · refine (read_low v f x1 old y (by omega) h1).trans ?_
      unfold table
      rw [dif_pos (show (y 0).val < 1001 by omega)]

/-- The row the second store keeps, as it loads it from what the first one left. -/
theorem kept_row (old : S1002x256.Idx → Elt F .bf16) (j : Fin 256) :
    v.readAt (Elt F) (Rect.unit (s := S1024x256) ![1000, 0] S24x256.size inb_S1024x256_S24x256_1000_0).toLoadRect
      (v.writes (Elt F) f [lowPiece x1 old]) (ix2 (0 : Fin 24) j : S24x256.Idx) = k0_pay1 x1 (ix2 (1000 : Fin 1001) j) := by
  have e : (Rect.unit (s := S1024x256) ![1000, 0] S24x256.size inb_S1024x256_S24x256_1000_0).toLoadRect.idx
      (ix2 (0 : Fin 24) j : S24x256.Idx) = (ix2 (1000 : Fin 1024) j : S1024x256.Idx) :=
    funext fun a => Fin.ext (match a with
      | ⟨0, _⟩ => rfl
      | ⟨1, _⟩ => by show 0 + 1 * j.val = j.val; omega)
  refine (congrArg (v.read (Elt F) _) e).trans ?_
  exact read_low v f x1 old _ (by show 1000 < 1001; omega) j.isLt

end Scratch

set_option maxHeartbeats 1000000 in
/-- The body at the first point. It finds the scratch at anything, leaves the table there and the block's values, computed
    from that table, in the output buffer; the inputs' buffers end as they were. -/
theorem body_first (c : Dev nD) (i : grid0.Coords) (hi : AtFirst i)
    (arg1 : Memref sig .tc .vmem S8x128x34 .f32) (harg1 : arg1.IsWhole) (arg2 : Memref sig .tc .vmem S1001x256 .f32) (harg2 : arg2.IsWhole)
    (arg3 : Memref sig .tc .vmem S34x256 .bf16) (harg3 : arg3.IsWhole) (arg4 : Memref sig .tc .vmem S1x256 .f32) (harg4 : arg4.IsWhole)
    (arg5 : Memref sig .tc .vmem S8x128x256 .f32) (harg5 : arg5.IsWhole) (arg6 : Memref sig .tc .vmem S1024x256 .bf16) (harg6 : arg6.IsWhole)
    (x0 : Vec F S8x128x34 .f32) (x1 : Vec F S1001x256 .f32) (x2 : Vec F S34x256 .bf16) (x3 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay3 (table x1) x0 x2 x3)
            ∗ owns (c : Thread nD τ) arg6 fullShare (table x1)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg1.eq_unread hf0; obtain rfl := harg2.eq_unread hf1; obtain rfl := harg3.eq_unread hf2; obtain rfl := harg4.eq_unread hf3
  sl_exec (disch := first | sl_exact hi)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    rw [View.read_writes_full, View.readAt_full, View.readAt_full, View.readAt_full, hf0, hf2, hf3]
    refine congrArg (fun tb => k0_pay3 tb x0 x2 x3) ?_
    unfold body_first.sl.v3
    refine (View.readAt_full (Val := Elt F) arg6.view (arg6.view.writes (Elt F) arg6.view.junk (body_first.sl.HS0_2 c arg2 harg2 arg6 x1 fs0)) inb_S1024x256_S1024x256_0_0).trans ?_
    unfold body_first.sl.HS0_2 body_first.sl.HS0_1
    rw [View.readAt_full, hf1]
    exact read_table arg6.view _ x1 _ _ (kept_row arg6.view fs0 x1 _)
  iexists _; isplitr; swap; · iexact HS0
  ipureintro
  unfold body_first.sl.HS0_2 body_first.sl.HS0_1
  rw [View.readAt_full, hf1]
  exact read_table arg6.view _ x1 _ _ (kept_row arg6.view fs0 x1 _)

set_option maxHeartbeats 1000000 in
/-- The body at any later point. It reads the scratch, `tb`, and leaves the block's values, computed from it, in the output
    buffer; the scratch and the inputs' buffers end as they were. -/
theorem body_later (c : Dev nD) (i : grid0.Coords) (hi : ¬AtFirst i)
    (arg1 : Memref sig .tc .vmem S8x128x34 .f32) (harg1 : arg1.IsWhole) (arg2 : Memref sig .tc .vmem S1001x256 .f32) (harg2 : arg2.IsWhole)
    (arg3 : Memref sig .tc .vmem S34x256 .bf16) (harg3 : arg3.IsWhole) (arg4 : Memref sig .tc .vmem S1x256 .f32) (harg4 : arg4.IsWhole)
    (arg5 : Memref sig .tc .vmem S8x128x256 .f32) (harg5 : arg5.IsWhole) (arg6 : Memref sig .tc .vmem S1024x256 .bf16) (harg6 : arg6.IsWhole)
    (x0 : Vec F S8x128x34 .f32) (x1 : Vec F S1001x256 .f32) (x2 : Vec F S34x256 .bf16) (x3 : Vec F S1x256 .f32) (tb : Vec F S1024x256 .bf16)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare tb
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay3 tb x0 x2 x3)
            ∗ owns (c : Thread nD τ) arg6 fullShare tb) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, Hk⟩
  obtain rfl := harg1.eq_unread hf0; obtain rfl := harg2.eq_unread hf1; obtain rfl := harg3.eq_unread hf2; obtain rfl := harg4.eq_unread hf3
  obtain rfl := harg6.eq_unread hs0
  sl_exec (disch := first | sl_exact hi)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    rw [View.read_writes_full, View.readAt_full, View.readAt_full, View.readAt_full, View.readAt_full, hf0, hf2, hf3, hs0]
  iexists _; isplitr; · ipureintro; exact harg6.read_unread _
  iexact HS0

end Cert.KernelIdeal.Body

end
-- ==== Proof.KernelIdealRun.lean ====
module

public import proofs.«01_k».proof.Proof.KernelIdealBody
public import Idealize.ShloMosaic.Lib.Pipeline.Value
public import Idealize.ShloMosaic.Lib.Claim

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's test holds at the first grid point only. -/
theorem atFirst_iff : ∀ t : Fin cfg0.N, AtFirst (grid0.coords t) ↔ t.val = 0 :=
  (fun t => by
    have ht : t.val < 256 := Nat.lt_of_lt_of_eq t.isLt N_0
    have e0 : (grid0.coords t 0).val = t.val / 1 % 256 := Pipeline.Grid.coords_val t 0 (by decide) rfl
    have e1 : t.val = 0 ↔ t.val % 256 = 0 := by omega
    rw [e1]
    simp only [AtFirst, e0]
    word_cmp
   : ∀ t : Fin grid0.N, AtFirst (grid0.coords t) ↔ t.val = 0)

/-- The scratch operand, a whole buffer of the kernel's own. -/
abbrev scratch : Memref sig .tc .vmem S1024x256 .bf16 := Memref.whole cc0_scratch0

/-- The table on core `c`: from the embedding argument as launched. -/
abbrev tab (c : Dev nD) : Vec F S1024x256 .bf16 := table (m ((c.tc : Thread nD τ).loc main_arg1))

/-- The table built from the embedding's block at any point is that one: the block is the whole array. -/
theorem table_block (c : Dev nD) (t : Fin cfg0.N) : table (iblk m c 1 t) = tab m c := by
  refine congrArg table (Eq.trans ?_ (V_main_arg1 m c))
  funext y
  refine congrArg (V m c main_arg1) (funext fun a => Fin.ext ?_)
  match a with
  | ⟨0, _⟩ => show 0 * 1001 + 1 * (y 0).val = (y 0).val; omega
  | ⟨1, _⟩ => show 0 * 256 + 1 * (y 1).val = (y 1).val; omega

/-- What the body leaves in the output buffer at point `t`. -/
def block (c : Dev nD) (t : Fin cfg0.N) : Vec F S8x128x256 .f32 :=
  k0_pay3 (tab m c) (iblk m c 0 t) (iblk m c 2 t) (iblk m c 3 t)

/-- What holds between points besides the windows: before the first point the scratch is at anything, afterwards it holds
    the table; the generator register is at some state. -/
def between (c : Dev nD) : ℕ → sProp 𝕄
  | 0 => Pipeline.ΦA spec0 c
  | _ + 1 => iprop(owns (c : Thread nD τ) scratch fullShare (tab m c) ∗ (∃ r, prngReg c r))

/-- Before the first point: the scratch as a memref owned at some contents. -/
theorem between_zero (c : Dev nD) :
    between m c 0 = iprop((∃ d, owns (c : Thread nD τ) scratch fullShare d) ∗ (∃ r, prngReg c r)) := by
  show Pipeline.ΦA spec0 c = _
  unfold Pipeline.ΦA; rw [scopedRest0_eq]; simp only [scratch, owns_whole]
  try rfl

/-- After a point: the scratch holds the table. -/
theorem between_succ (c : Dev nD) (n : ℕ) :
    between m c (n + 1) = iprop(owns (c : Thread nD τ) scratch fullShare (tab m c) ∗ (∃ r, prngReg c r)) := rfl

/-- The launch's data on core `c`: each input buffer holds its block after the body, the output buffer the block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
  Φ t := between m c t.val
  q _ := fullShare
  owed _ := 0

/-- Each array starts as the launch finds it. -/
theorem arrays (c : Dev nD) (w : Fin cfg0.W) : (dats m 0 c).A w = V m c (Pipeline.arrRef spec0 w) := by
  dsimp only [dats]

/-- Input `0`'s buffer holds its block after the body, -/
theorem after0 (c : Dev nD) (t : Fin cfg0.N) : (dats m 0 c).after 0 t = iblk m c 0 t := by dsimp only [dats]
/-- input `1`'s too, -/
theorem after1 (c : Dev nD) (t : Fin cfg0.N) : (dats m 0 c).after 1 t = iblk m c 1 t := by dsimp only [dats]
/-- input `2`'s too, -/
theorem after2 (c : Dev nD) (t : Fin cfg0.N) : (dats m 0 c).after 2 t = iblk m c 2 t := by dsimp only [dats]
/-- input `3`'s too, -/
theorem after3 (c : Dev nD) (t : Fin cfg0.N) : (dats m 0 c).after 3 t = iblk m c 3 t := by dsimp only [dats]
/-- and the output's holds the block computed. -/
theorem after4 (c : Dev nD) (t : Fin cfg0.N) : (dats m 0 c).after 4 t = block m c t := by dsimp only [dats]

set_option maxHeartbeats 1600000 in
/-- The body at any point, from the buffers holding the inputs' blocks: at the first point it builds the table, later it
    finds it. -/
theorem body_at (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t))) := by
  simp only [before0_0_of m (dats m 0 c) (arrays m c 0) (after0 m c), before0_1_of m (dats m 0 c) (arrays m c 1) (after1 m c),
    before0_2_of m (dats m 0 c) (arrays m c 2) (after2 m c), before0_3_of m (dats m 0 c) (arrays m c 3) (after3 m c)]
  rw [show (dats m 0 c).owesAt () t.succ = (dats m 0 c).owesAt () t.castSucc from rfl,
    show (dats m 0 c).Φ t.succ = between m c (t.val + 1) from rfl, show (dats m 0 c).Φ t.castSucc = between m c t.val from rfl,
    after0, after1, after2, after3, after4, between_succ]
  unfold block
  by_cases hz : t.val = 0
  · rw [hz, between_zero, ← table_block m c t]
    iintro ⟨⟨HS, Hg⟩, Ho, ⟨%d0, H0⟩, ⟨%d1, H1⟩, ⟨%d2, H2⟩, ⟨%d3, H3⟩, ⟨%d4, H4⟩⟩
    iapply (body_first c (grid0.coords t) ((atFirst_iff t).mpr hz) _ _ _ _ _ _ _ _ _ _ _ _ (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · obtain ⟨n, hn⟩ := Nat.exists_eq_succ_of_ne_zero hz
    rw [hn, between_succ]
    iintro ⟨⟨HS, Hg⟩, Ho, ⟨%d0, H0⟩, ⟨%d1, H1⟩, ⟨%d2, H2⟩, ⟨%d3, H3⟩, ⟨%d4, H4⟩⟩
    iapply (body_later c (grid0.coords t) (fun h => hz ((atFirst_iff t).mp h)) _ _ _ _ _ _ _ _ _ _ _ _ (iblk m c 0 t) (iblk m c 1 t) (iblk m c 2 t) (iblk m c 3 t) (tab m c) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- What the launch asks of the body, at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_at m c t) rfl .rfl fun _ => .rfl

/-- What the launch hands over is what holds before the first point. -/
theorem enter (c : Dev nD) : Pipeline.ΦA spec0 c ⊢ (dats m 0 c).Φ 0 := Idealize.SL.BI.Entails.refl _

/-- After the last point the table is forgotten and the launch gets back what it handed over. -/
theorem leave (c : Dev nD) : (dats m 0 c).Φ (Fin.last cfg0.N) ⊢ Pipeline.ΦA spec0 c := by
  rw [show (dats m 0 c).Φ (Fin.last cfg0.N) = between m c (255 + 1) from congrArg (between m c) N_0, between_succ,
    show Pipeline.ΦA spec0 c = between m c 0 from rfl, between_zero]
  iintro ⟨HS, Hg⟩
  isplitl [HS]
  · iexists _; iexact HS
  iexact Hg

set_option backward.isDefEq.respectTransparency.types false in
/-- The launch: every run ends, with each of the pipeline's arrays at what the data computes, every other buffer as the
    launch found it, and every semaphore counter at zero. -/
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hin := enter m) (hout := leave m)

/-- Every run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arrays m) ((θ_run defs _ _).mono (fun _ h => h.1) (launched m ρ)))
    ((θ_run defs _ _).mono (fun _ h => h.2) (launched m ρ))

end Cert.KernelIdeal.Run

end
-- ==== Proof.Words.lean ====
module

public import Idealize.ShloMosaic.Lib.ValueIdx
public import Idealize.ShloMosaic.Lib.IdealHost
public import Idealize.ShloMosaic.PureOps.Ideal.Laws

@[expose] public section

noncomputable section

namespace Cert.Words

open Idealize.ShloMosaic Idealize.ShloMosaic.ValueIdx

/-- One entry of a one-hot row: 1 where the identifier is the column's number, 0 elsewhere. -/
def hot (a : BitVec 32) (k : Fin 1024) : EReal := if a = BitVec.ofNat 32 k.val then 1 else 0

/-- The bit of an equality test, widened and converted to a number, is that entry. -/
theorem hot_of_bit (a : BitVec 32) (k : Fin 1024) :
    ((((IntOp.cmpi .eq a (BitVec.ofNat 32 k.val)).setWidth 32).toInt : ℝ) : EReal) = hot a k := by
  unfold hot
  by_cases h : a = BitVec.ofNat 32 k.val
  · rw [if_pos h, h]; simp [IntOp.cmpi]
  · rw [if_neg h, show IntOp.cmpi .eq a (BitVec.ofNat 32 k.val) = 0#1 from congrArg BitVec.ofBool (beq_false_of_ne h)]; simp

/-- A one-hot row times a table is one row of the table: the other products are zero whatever the table holds, since zero
    times an infinity is zero. -/
theorem sum_hot (r : Fin 1024) (T : Fin 1024 → EReal) : ∑ k : Fin 1024, hot (BitVec.ofNat 32 r.val) k * T k = T r := by
  rw [Finset.sum_eq_single r]
  · rw [hot, if_pos rfl, one_mul]
  · intro k _ hk
    rw [hot, if_neg, zero_mul]
    intro e
    refine hk (Fin.ext ?_)
    have h1 := congrArg BitVec.toNat e
    rw [BitVec.toNat_ofNat, BitVec.toNat_ofNat] at h1
    have := r.isLt; have := k.isLt
    omega
  · intro h; exact absurd (Finset.mem_univ r) h

/-- The word of `1.0`. -/
theorem one_word : Ideal.ofBits .f32 0x3F800000#32 = 1 := by
  simp [Ideal.ofBits, Ideal.ieee, -EReal.coe_mul]; norm_num

/-- The word of `0.5`. -/
theorem half_word : Ideal.ofBits .f32 0x3F000000#32 = ((1 / 2 : ℝ) : EReal) := by
  simp [Ideal.ofBits, Ideal.ieee, -EReal.coe_mul]; norm_num

/-- The word of the epochs' deviation: `9686330 / 2 ^ 25`, the value nearest to the square root of one twelfth. -/
theorem deviation_word : Ideal.ofBits .f32 0x3E93CD3A#32 = ((9686330 / 33554432 : ℝ) : EReal) := by
  simp [Ideal.ofBits, Ideal.ieee, -EReal.coe_mul]; norm_num

/-- The word of minus infinity. -/
theorem bot_word : Ideal.ofBits .f32 0xFF800000#32 = ⊥ := by simp [Ideal.ofBits, Ideal.ieee]

/-- The word of plus infinity. -/
theorem top_word : Ideal.ofBits .f32 0x7F800000#32 = ⊤ := by simp [Ideal.ofBits, Ideal.ieee]

/-- The epoch's part folded into a weight and a bias is the epoch's part written out: `x (w / s) − (h / s) w` is
    `((x − h) / s) w` for every extended real `x`, when the weight `w` is a number and the deviation `s` is positive. At an
    infinite `x` both sides are the infinity whose sign is that of `x w`, or zero where `w` is. -/
theorem fold_epoch (x : EReal) (w h s : ℝ) (hs : 0 < s) :
    x * Ideal.div (w : EReal) (s : EReal) + -(Ideal.div (h : EReal) (s : EReal) * (w : EReal))
      = Ideal.div (x - (h : EReal)) (s : EReal) * (w : EReal) := by
  have hi : 0 < 1 / s := one_div_pos.mpr hs
  rw [Ideal.div_coe hs.ne', Ideal.div_coe hs.ne', Ideal.div_coe hs.ne', ← EReal.coe_mul, ← EReal.coe_mul, ← EReal.coe_mul, ← EReal.coe_neg]
  induction x with
  | coe x => rw [← EReal.coe_sub, ← EReal.coe_mul, ← EReal.coe_mul, ← EReal.coe_mul, ← EReal.coe_add]; congr 1; ring
  | top =>
    rw [EReal.top_sub_coe, EReal.top_mul_coe_of_pos hi]
    rcases lt_trichotomy w 0 with hw | hw | hw
    · rw [EReal.top_mul_coe_of_neg (mul_neg_of_neg_of_pos hw hi), EReal.top_mul_coe_of_neg hw, EReal.bot_add]
    · subst hw; simp
    · rw [EReal.top_mul_coe_of_pos (mul_pos hw hi), EReal.top_mul_coe_of_pos hw, EReal.top_add_coe]
  | bot =>
    rw [show (⊥ : EReal) - (h : EReal) = ⊥ from by rw [sub_eq_add_neg, EReal.bot_add], EReal.bot_mul_coe_of_pos hi]
    rcases lt_trichotomy w 0 with hw | hw | hw
    · rw [EReal.bot_mul_coe_of_neg (mul_neg_of_neg_of_pos hw hi), EReal.bot_mul_coe_of_neg hw, EReal.top_add_coe]
    · subst hw; simp
    · rw [EReal.bot_mul_coe_of_pos (mul_pos hw hi), EReal.bot_mul_coe_of_pos hw, EReal.bot_add]

end Cert.Words

end
-- ==== Proof.KernelIdealBlock.lean ====
module

public import proofs.«01_k».proof.Proof.KernelIdealBody
public import proofs.«01_k».proof.Proof.Words
public import Idealize.ShloMosaic.Lib.Pipeline.Value

@[expose] public section

noncomputable section

namespace Cert.KernelIdeal.Block

open Cert.KernelIdeal Cert.KernelIdeal.Gen Cert.KernelIdeal.Body Cert.Words
open Idealize.ShloMosaic Idealize.ShloMosaic.ValueIdx

/-- An element of the one-hot product: the sum over the table's rows. -/
theorem dot_table (L : FVec Ideal S8x128x1024 .bf16) (R : FVec Ideal S1024x256 .bf16) (a : Fin 8) (b : Fin 128) (o : Fin 256) :
    matmul dot_S8x128x1024_S1024x256_S8x128x256_2_0_01_1_n_n none L R (constant S8x128x256 .f32 0x00000000#32) (ix3 a b o)
      = ∑ k : Fin 1024, L (ix3 a b k) * R (ix2 k o) := by
  refine (Ideal.matmul_constant_zero_apply dot_S8x128x1024_S1024x256_S8x128x256_2_0_01_1_n_n none L R _).trans ?_
  rw [← Equiv.sum_comp (contrEquiv1 dot_S8x128x1024_S1024x256_S8x128x256_2_0_01_1_n_n 1024 rfl rfl).symm]
  refine Finset.sum_congr rfl fun k _ => ?_
  have hk := contrEquiv1_symm_val dot_S8x128x1024_S1024x256_S8x128x256_2_0_01_1_n_n 1024 rfl rfl k
  refine congrArg₂ (· * ·) (congrArg L (funext fun d => Fin.ext ?_)) (congrArg R (funext fun d => Fin.ext ?_))
  · match d with
    | ⟨0, _⟩ => rfl
    | ⟨1, _⟩ => rfl
    | ⟨2, _⟩ => exact (dot_S8x128x1024_S1024x256_S8x128x256_2_0_01_1_n_n.lhsIdx_val_of_single rfl _ _).trans hk
  · match d with
    | ⟨0, _⟩ => exact (dot_S8x128x1024_S1024x256_S8x128x256_2_0_01_1_n_n.rhsIdx_val_of_single rfl _ _).trans hk
    | ⟨1, _⟩ => rfl

/-- An element of the features' product: the sum over the features. -/
theorem dot_features (L : FVec Ideal S8x128x34 .bf16) (R : FVec Ideal S34x256 .bf16) (a : Fin 8) (b : Fin 128) (o : Fin 256) :
    matmul dot_S8x128x34_S34x256_S8x128x256_2_0_01_1_n_n none L R (constant S8x128x256 .f32 0x00000000#32) (ix3 a b o)
      = ∑ k : Fin 34, L (ix3 a b k) * R (ix2 k o) := by
  refine (Ideal.matmul_constant_zero_apply dot_S8x128x34_S34x256_S8x128x256_2_0_01_1_n_n none L R _).trans ?_
  rw [← Equiv.sum_comp (contrEquiv1 dot_S8x128x34_S34x256_S8x128x256_2_0_01_1_n_n 34 rfl rfl).symm]
  refine Finset.sum_congr rfl fun k _ => ?_
  have hk := contrEquiv1_symm_val dot_S8x128x34_S34x256_S8x128x256_2_0_01_1_n_n 34 rfl rfl k
  refine congrArg₂ (· * ·) (congrArg L (funext fun d => Fin.ext ?_)) (congrArg R (funext fun d => Fin.ext ?_))
  · match d with
    | ⟨0, _⟩ => rfl
    | ⟨1, _⟩ => rfl
    | ⟨2, _⟩ => exact (dot_S8x128x34_S34x256_S8x128x256_2_0_01_1_n_n.lhsIdx_val_of_single rfl _ _).trans hk
  · match d with
    | ⟨0, _⟩ => exact (dot_S8x128x34_S34x256_S8x128x256_2_0_01_1_n_n.rhsIdx_val_of_single rfl _ _).trans hk
    | ⟨1, _⟩ => rfl

/-- The identifiers a block compares: lane 0 of each row, converted. -/
theorem idents (x : Vec Ideal S8x128x34 .f32) (a : Fin 8) (b : Fin 128) (k : Fin 1024) :
    broadcastTo S8x128x1024 (shapeCast S8x128x1 (fptosi 32 (shapeCast S8x128 (extractStridedSlice S8x128x1 ![0, 0, 0] x
        slices_S8x128x34_o0_0_0_S8x128x1) shapeCasts_S8x128x1_S8x128 : FVec Ideal S8x128 .f32)) shapeCasts_S8x128_S8x128x1)
        broadcasts_S8x128x1_S8x128x1024 (ix3 a b k)
      = Ideal.fptosi 32 (x (ix3 a b 0)) := by
  refine (broadcastTo_apply _ _ _ (ix3 a b (0 : Fin 1)) fun d => ?_).trans ?_
  · match d with
    | ⟨0, _⟩ => rfl
    | ⟨1, _⟩ => rfl
    | ⟨2, _⟩ => rfl
  refine (shapeCast_apply _ _ _ (ix2 a b) ?_).trans ?_
  · rw [Shape.rowMajor_val_two, Shape.rowMajor_val_three]; show a.val * 128 + b.val = (a.val * 128 + b.val) * 1 + 0; omega
  refine congrArg (Ideal.fptosi 32) ?_
  refine (shapeCast_apply _ _ _ (ix3 a b (0 : Fin 1)) ?_).trans ?_
  · rw [Shape.rowMajor_val_two, Shape.rowMajor_val_three]; show (a.val * 128 + b.val) * 1 + 0 = a.val * 128 + b.val; omega
  refine extractStridedSlice_apply _ _ _ _ _ fun d => ?_
  match d with
  | ⟨0, _⟩ => show a.val = 0 + a.val; omega
  | ⟨1, _⟩ => show b.val = 0 + b.val; omega
  | ⟨2, _⟩ => rfl

/-- The bias row of a block, read at an element. -/
theorem bias_row (v : Vec Ideal S1x256 .f32) (a : Fin 8) (b : Fin 128) (o : Fin 256) :
    broadcastTo S8x128x256 (shapeCast S1x1x256 (shapeCast S1x256 v shapeCasts_S1x256_S1x256) shapeCasts_S1x256_S1x1x256)
        broadcasts_S1x1x256_S8x128x256 (ix3 a b o)
      = v (ix2 0 o) := by
  rw [shapeCast_self]
  refine (broadcastTo_apply _ _ _ (ix3 (0 : Fin 1) (0 : Fin 1) o) fun d => ?_).trans ?_
  · match d with
    | ⟨0, _⟩ => rfl
    | ⟨1, _⟩ => rfl
    | ⟨2, _⟩ => rfl
  refine shapeCast_apply _ _ _ (ix2 (0 : Fin 1) o) ?_
  rw [Shape.rowMajor_val_two, Shape.rowMajor_val_three]; show 0 * 256 + o.val = (0 * 1 + 0) * 256 + o.val; omega

/-- An element of what the body computes at a point: the one-hot row times the table, plus the features times the combined
    weights, plus the bias. -/
theorem payload_apply (tb : Vec Ideal S1024x256 .bf16) (x : Vec Ideal S8x128x34 .f32) (w : Vec Ideal S34x256 .bf16)
    (v : Vec Ideal S1x256 .f32) (a : Fin 8) (b : Fin 128) (o : Fin 256) :
    k0_pay3 (F := Ideal) tb x w v (ix3 a b o)
      = (∑ k : Fin 1024, hot (Ideal.fptosi 32 (x (ix3 a b 0))) k * tb (ix2 k o))
        + (∑ j : Fin 34, x (ix3 a b j) * w (ix2 j o)) + v (ix2 0 o) := by
  unfold k0_pay3
  refine congrArg₂ (· + ·) (congrArg₂ (· + ·) ((dot_table _ _ a b o).trans (Finset.sum_congr rfl fun k _ => congrArg (· * tb (ix2 k o)) ?_)) ?_) (bias_row v a b o)
  · rw [← hot_of_bit, ← idents x a b k, ← iota_single_apply .tc S8x128x1024 32 2 iota_S8x128x1024_d2_w32 (ix3 a b k)]
    rfl
  · rw [shapeCast_self]
    exact dot_features _ _ a b o

/-- The table's rows below 1001 are the embedding's. -/
theorem table_apply (x1 : Vec Ideal S1001x256 .f32) (r : Fin 1001) (o : Fin 256) :
    table (F := Ideal) x1 (ix2 ⟨r.val, by omega⟩ o) = x1 (ix2 r o) := by
  unfold table
  refine (dif_pos r.isLt).trans ?_
  unfold k0_pay1
  rw [shapeCast_self]
  rfl

/-- An element of what the body computes, where the row's identifier is `r`: the embedding's row `r`, plus the features
    times the combined weights, plus the bias. -/
theorem block_apply (x1 : Vec Ideal S1001x256 .f32) (x : Vec Ideal S8x128x34 .f32) (w : Vec Ideal S34x256 .bf16)
    (v : Vec Ideal S1x256 .f32) (a : Fin 8) (b : Fin 128) (o : Fin 256) (r : Fin 1001)
    (hr : Ideal.fptosi 32 (x (ix3 a b 0)) = BitVec.ofNat 32 r.val) :
    k0_pay3 (F := Ideal) (table x1) x w v (ix3 a b o)
      = x1 (ix2 r o) + (∑ j : Fin 34, x (ix3 a b j) * w (ix2 j o)) + v (ix2 0 o) := by
  rw [payload_apply, hr, sum_hot ⟨r.val, by omega⟩ (fun k => table (F := Ideal) x1 (ix2 k o)), table_apply]

end Cert.KernelIdeal.Block

end
-- ==== Proof.KernelIdealHost.lean ====
module

public import proofs.«01_k».proof.Proof.Gen.KernelIdeal.Frame
public import proofs.«01_k».proof.Proof.Words
public import Idealize.ShloMosaic.Lib.Pipeline.Value
public import Idealize.ShloMosaic.Lib.Claim

@[expose] public section

noncomputable section

namespace Cert.KernelIdeal.Host

open Cert.KernelIdeal Cert.KernelIdeal.Gen Cert.Words
open Idealize.ShloMosaic Idealize.ShloMosaic.TcCoe Idealize.ShloMosaic.ValueIdx Idealize.SL.Sem

/-- The epoch's weights divided by the deviation. -/
def scaled (x2 : FVec Ideal S256x1 .f32) : FVec Ideal S256 .f32 :=
  Host.divf (shapeCast S256 x2 shapeCasts_S256x1_S256) (broadcastInDim S256 ![] bcast_S_S256 (constant S_ .f32 0x3E93CD3A#32))

/-- The combined weights the launch reads: a row of zeros for the identifier's lane, the scaled epoch's weights for the
    epoch's lane, the configuration's weights for the others. -/
def weights (x2 : FVec Ideal S256x1 .f32) (x3 : FVec Ideal S256x32 .f32) : FVec Ideal S34x256 .bf16 :=
  truncf .bf16 (concatenate S34x256 0
    [⟨S1x256, broadcastInDim S1x256 ![] bcast_S_S1x256 (constant (F := Ideal) S_ .f32 0x00000000#32)⟩,
     ⟨S1x256, broadcastInDim S1x256 ![1] bcast_S256_S1x256_1 (scaled x2)⟩,
     ⟨S32x256, transpose S32x256 [1, 0] x3 transposes_S256x32_S32x256_1_0⟩] concatenates_S1x256_S1x256_S32x256_S34x256_d0 : FVec Ideal S34x256 .f32)
    bitsLt_bf16_f32

/-- The bias the launch reads: the given bias less the part of the epoch's shift. -/
def bias (x2 : FVec Ideal S256x1 .f32) (x4 : FVec Ideal S256 .f32) : FVec Ideal S1x256 .f32 :=
  broadcastInDim S1x256 ![1] bcast_S256_S1x256_1 (subf x4
    (mulf (Host.divf (broadcastInDim S256 ![] bcast_S_S256 (constant (F := Ideal) S_ .f32 0x3F000000#32))
      (broadcastInDim S256 ![] bcast_S_S256 (constant S_ .f32 0x3E93CD3A#32))) (shapeCast S256 x2 shapeCasts_S256x1_S256)))

variable (m : (ℓ : Loc nD τ sig) → Buf (Elt Ideal) ℓ)

set_option maxHeartbeats 1600000 in
/-- What the launch finds in the combined weights' array. -/
theorem entry_weights (c : Dev nD) :
    V (F := Ideal) m c main_v7 = weights (m ((c.tc : Thread nD τ).loc main_arg2)) (m ((c.tc : Thread nD τ).loc main_arg3)) := by
  unfold V hostOps0
  after_results_simp <;> rfl

set_option maxHeartbeats 1600000 in
/-- What the launch finds in the bias's array. -/
theorem entry_bias (c : Dev nD) :
    V (F := Ideal) m c main_v13 = bias (m ((c.tc : Thread nD τ).loc main_arg2)) (m ((c.tc : Thread nD τ).loc main_arg4)) := by
  unfold V hostOps0
  after_results_simp <;> rfl

/-- The column of epoch's weights as a vector. -/
theorem column (x2 : FVec Ideal S256x1 .f32) (o : Fin 256) : shapeCast S256 x2 shapeCasts_S256x1_S256 (ix1 o) = x2 (ix2 o 0) := by
  refine shapeCast_apply _ _ _ (ix2 o (0 : Fin 1)) ?_
  rw [Shape.rowMajor_val_two, Shape.rowMajor_val_one]; show o.val * 1 + 0 = o.val; omega

/-- A vector as a row. -/
theorem row (v : FVec Ideal S256 .f32) (z : Fin 1) (o : Fin 256) :
    broadcastInDim S1x256 ![1] bcast_S256_S1x256_1 v (ix2 z o) = v (ix1 o) := by
  refine broadcastInDim_apply _ bcast_S256_S1x256_1 v _ (ix1 o) fun a => ?_
  match a with
  | ⟨0, _⟩ => rfl

/-- The identifier's row of the combined weights is zero. -/
theorem weights_zero (x2 : FVec Ideal S256x1 .f32) (x3 : FVec Ideal S256x32 .f32) (o : Fin 256) : weights x2 x3 (ix2 0 o) = 0 := by
  unfold weights
  rw [truncf_apply]
  refine Eq.trans (concatenate_apply_piece (t := S34x256) 0 _ _ _ 0 (by show 0 < 3; decide) S1x256 _ rfl rfl 0 rfl (ix2 (0 : Fin 1) o) ?_ rfl) ?_
  · intro b hb
    match b with
    | ⟨0, _⟩ => rfl
    | ⟨1, _⟩ => rfl
  · exact Ideal.ofBits_zero_f32

/-- The epoch's row holds the epoch's weights divided by the deviation. -/
theorem weights_one (x2 : FVec Ideal S256x1 .f32) (x3 : FVec Ideal S256x32 .f32) (o : Fin 256) :
    weights x2 x3 (ix2 1 o) = Ideal.div (x2 (ix2 o 0)) (Ideal.ofBits .f32 0x3E93CD3A#32) := by
  unfold weights
  rw [truncf_apply]
  refine Eq.trans (concatenate_apply_piece (t := S34x256) 0 _ _ _ 1 (by show 1 < 3; decide) S1x256 _ rfl rfl 1 rfl (ix2 (0 : Fin 1) o) ?_ rfl) ?_
  · intro b hb
    match b with
    | ⟨0, _⟩ => exact absurd rfl hb
    | ⟨1, _⟩ => rfl
  · rw [row]
    unfold scaled
    exact congrArg (fun e => Ideal.div e (Ideal.ofBits .f32 0x3E93CD3A#32)) (column x2 o)

/-- The other rows hold the configuration's weights. -/
theorem weights_config (x2 : FVec Ideal S256x1 .f32) (x3 : FVec Ideal S256x32 .f32) (j : Fin 32) (o : Fin 256) :
    weights x2 x3 (ix2 ⟨2 + j.val, by omega⟩ o) = x3 (ix2 o j) := by
  unfold weights
  rw [truncf_apply]
  refine Eq.trans (concatenate_apply_piece (t := S34x256) 0 _ _ _ 2 (by show 2 < 3; decide) S32x256 _ rfl rfl 2 rfl (ix2 j o) ?_ rfl) ?_
  · intro b hb
    match b with
    | ⟨0, _⟩ => exact absurd rfl hb
    | ⟨1, _⟩ => rfl
  · refine transpose_apply _ _ _ _ (ix2 o j) fun b => ?_
    match b with
    | ⟨0, _⟩ => rfl
    | ⟨1, _⟩ => rfl

/-- An element of the bias the launch reads. -/
theorem bias_apply (x2 : FVec Ideal S256x1 .f32) (x4 : FVec Ideal S256 .f32) (o : Fin 256) :
    bias x2 x4 (ix2 0 o)
      = x4 (ix1 o) - Ideal.div (Ideal.ofBits .f32 0x3F000000#32) (Ideal.ofBits .f32 0x3E93CD3A#32) * x2 (ix2 o 0) := by
  unfold bias
  rw [row, subf_apply, mulf_apply, column]
  rfl

/-- The features times the combined weights: nothing for the identifier's lane, whatever it holds; the epoch's lane times its
    scaled weight; the configuration's lanes times theirs. -/
theorem sum_weights (f : Fin 34 → EReal) (x2 : FVec Ideal S256x1 .f32) (x3 : FVec Ideal S256x32 .f32) (o : Fin 256) :
    ∑ j : Fin 34, f j * weights x2 x3 (ix2 j o)
      = f 1 * Ideal.div (x2 (ix2 o 0)) (Ideal.ofBits .f32 0x3E93CD3A#32) + ∑ j : Fin 32, f ⟨2 + j.val, by omega⟩ * x3 (ix2 o j) := by
  rw [Fin.sum_univ_succ, Fin.sum_univ_succ, show weights x2 x3 (ix2 0 o) = 0 from weights_zero x2 x3 o, mul_zero, zero_add]
  refine congrArg₂ (· + ·) ?_ (Finset.sum_congr rfl fun j _ => ?_)
  · exact congrArg (f 1 * ·) (weights_one x2 x3 o)
  · have hj : Fin.succ (Fin.succ j) = (⟨2 + j.val, by omega⟩ : Fin 34) := Fin.ext (by simp only [Fin.val_succ]; omega)
    rw [hj, weights_config]

end Cert.KernelIdeal.Host

end
-- ==== Proof.ReferenceIdealValue.lean ====
module

public import proofs.«01_k».proof.Proof.Gen.ReferenceIdeal.Read
public import proofs.«01_k».proof.Proof.Words
public import Idealize.ShloMosaic.Lib.ReduceAll

@[expose] public section

noncomputable section

namespace Cert.ReferenceIdeal.Elem

open Cert.ReferenceIdeal Cert.ReferenceIdeal.Gen Cert.ReferenceIdeal.Read Cert.Words
open Idealize.ShloMosaic Idealize.ShloMosaic.ValueIdx

/-- The reference's gather read at an element: the table's row at the start index, read signed and clamped to the table. -/
theorem gather_apply (x1 : FVec Ideal S1001x256 .f32) (idx : IVec S2048x128x1 32) (s : Fin 2048) (b : Fin 128) (o : Fin 256) :
    Host.gather gather_S1001x256_S2048x128x1_S2048x128x256_2_0_n_n_0_2_1256 x1 idx (ix3 s b o)
      = x1 (ix2 ⟨min (idx (ix3 s b 0)).toInt.toNat 1000, by omega⟩ o) := by
  unfold Host.gather
  refine congrArg x1 (funext fun a => Fin.ext ?_)
  let d := gather_S1001x256_S2048x128x1_S2048x128x256_2_0_n_n_0_2_1256
  match a with
  | ⟨0, _⟩ =>
    show d.start (ix3 s b o) idx 0 + d.batchCoord (ix3 s b o) 0 + d.offCoord (ix3 s b o) 0 = _
    rw [d.batchCoord_eq_zero _ _ List.not_mem_nil, d.offCoord_eq_zero _ _ (by decide)]
    simp only [Nat.add_zero]
    unfold GatherDims.start
    rw [dif_pos (show (0 : Fin 2) ∈ d.startIndexMap from List.mem_singleton.mpr rfl)]
    have hsi : d.siIdx (ix3 s b o) ⟨List.idxOf (0 : Fin 2) d.startIndexMap,
        List.idxOf_lt_length_iff.2 (List.mem_singleton.mpr rfl)⟩ = ix3 s b (0 : Fin 1) := by
      funext e; refine Fin.ext ?_
      match e with
      | ⟨0, _⟩ => rfl
      | ⟨1, _⟩ => rfl
      | ⟨2, _⟩ => rfl
    rw [hsi]
    rfl
  | ⟨1, _⟩ =>
    show d.start (ix3 s b o) idx 1 + d.batchCoord (ix3 s b o) 1 + d.offCoord (ix3 s b o) 1 = _
    rw [d.batchCoord_eq_zero _ _ List.not_mem_nil]
    unfold GatherDims.start
    rw [dif_neg (show (1 : Fin 2) ∉ d.startIndexMap by decide)]
    simp only [Nat.zero_add, Nat.add_zero]
    unfold GatherDims.offCoord
    rw [dif_pos (show (1 : Fin 2) ∈ d.sKept by decide)]
    rfl

/-- The identifier of row `(s, b)`: lane 0 of the input, converted. -/
theorem ident_apply (x0 : FVec Ideal S2048x128x34 .f32) (s : Fin 2048) (b : Fin 128) :
    val_main_v2 (F := Ideal) x0 (ix2 s b) = Ideal.fptosi 32 (x0 (ix3 s b 0)) := by
  rw [val_main_v2_apply, val_main_v1_apply, val_main_v0_apply]
  refine congrArg (fun i => Ideal.fptosi 32 (x0 i)) (funext fun d => Fin.ext ?_)
  have := s.isLt; have := b.isLt
  match d with
  | ⟨0, _⟩ => show (s.val * 128 + b.val) / 128 = s.val; omega
  | ⟨1, _⟩ => show (s.val * 128 + b.val) / 1 % 128 = b.val; omega
  | ⟨2, _⟩ => rfl

/-- Every identifier is a row of the table. -/
def InTable (x0 : FVec Ideal S2048x128x34 .f32) : Prop :=
  ∀ (s : Fin 2048) (b : Fin 128), ∃ r : Fin 1001, Ideal.fptosi 32 (x0 (ix3 s b 0)) = BitVec.ofNat 32 r.val

/-- A row number is not negative, so the lookup does not wrap it. -/
theorem not_neg (r : Fin 1001) : IntOp.cmpi .slt (BitVec.ofNat 32 r.val) 0#32 = 0#1 := by revert r; decide +kernel
/-- A row number is at least zero -/
theorem nonneg (r : Fin 1001) : IntOp.cmpi .sge (BitVec.ofNat 32 r.val) 0#32 = 1#1 := by revert r; decide +kernel
/-- and at most the last row, so the lookup does not replace its row. -/
theorem le_last (r : Fin 1001) : IntOp.cmpi .sle (BitVec.ofNat 32 r.val) 1000#32 = 1#1 := by revert r; decide +kernel
/-- Read signed and clamped, it is itself. -/
theorem clamp (r : Fin 1001) : min (BitVec.ofNat 32 r.val).toInt.toNat 1000 = r.val := by revert r; decide +kernel

section Lookup

variable (x0 : FVec Ideal S2048x128x34 .f32) (x1 : FVec Ideal S1001x256 .f32)

/-- The lookup's start index at a row is the row's identifier, when that is in the table. -/
theorem start_apply (s : Fin 2048) (b : Fin 128) (r : Fin 1001)
    (hr : Ideal.fptosi 32 (x0 (ix3 s b 0)) = BitVec.ofNat 32 r.val) (z : Fin 1) :
    val_main_call0_v5 (F := Ideal) x0 (ix3 s b z) = BitVec.ofNat 32 r.val := by
  have h2 : val_main_v2 (F := Ideal) x0 (ix2 s b) = BitVec.ofNat 32 r.val := (ident_apply x0 s b).trans hr
  have hi : idx_main_call0_v5 (ix3 s b z) = ix2 s b := funext fun d => by
    match d with
    | ⟨0, _⟩ => rfl
    | ⟨1, _⟩ => rfl
  rw [val_main_call0_v5_apply, hi, val_main_call0_v4_apply, val_main_call0_v1_apply, h2, val_main_call0_v0_apply, val_main_call0_c_apply,
    not_neg r, select_zero]

/-- The lookup's two range tests hold at a row whose identifier is in the table. -/
theorem range_bit (s : Fin 2048) (b : Fin 128) (r : Fin 1001)
    (hr : Ideal.fptosi 32 (x0 (ix3 s b 0)) = BitVec.ofNat 32 r.val) (z : Fin 1) :
    val_main_call0_v11 (F := Ideal) x0 (ix3 s b z) = 1#1 := by
  rw [val_main_call0_v11_apply, val_main_call0_v7_apply, val_main_call0_v10_apply, start_apply x0 s b r hr z,
    val_main_call0_v6_apply, val_main_call0_c_2_apply, val_main_call0_v9_apply, val_main_call0_v8_apply, val_main_call0_c_1_apply,
    nonneg r, le_last r]
  rfl

/-- The lookup's range test holds at every row. -/
theorem in_range (h : InTable x0) (i : S2048x128.Idx) : val_main_call0_v12 (F := Ideal) x0 i = 1#1 := by
  unfold val_main_call0_v12
  refine Host.reduce_andi_one _ _ _ _ _ rfl fun y => ?_
  obtain ⟨r, hr⟩ := h (y 0) (y 1)
  exact (congrArg (val_main_call0_v11 (F := Ideal) x0) (eq_ix3 y)).trans (range_bit x0 (y 0) (y 1) r hr (y 2))

/-- The lookup's element: the table's row at the identifier. -/
theorem take_apply (h : InTable x0) (s : Fin 2048) (b : Fin 128) (o : Fin 256) (r : Fin 1001)
    (hr : Ideal.fptosi 32 (x0 (ix3 s b 0)) = BitVec.ofNat 32 r.val) :
    val_main_v3 (F := Ideal) x0 x1 (ix3 s b o) = x1 (ix2 r o) := by
  rw [val_main_v3_apply, val_main_call0_v14_apply, in_range x0 h, select_one]
  unfold val_main_call0_v13
  rw [gather_apply]
  refine congrArg x1 (congrArg (fun k => ix2 k o) (Fin.ext ?_))
  show min (val_main_call0_v5 (F := Ideal) x0 (ix3 s b 0)).toInt.toNat 1000 = r.val
  rw [start_apply x0 s b r hr 0, clamp]

end Lookup

/-- The epoch's part of an element: lane 1, centred and scaled, times the epoch's weight. -/
theorem epoch_apply (x0 : FVec Ideal S2048x128x34 .f32) (x2 : FVec Ideal S256x1 .f32) (s : Fin 2048) (b : Fin 128) (o : Fin 256) :
    val_main_v9 (F := Ideal) x0 x2 (ix3 s b o)
      = Ideal.div (x0 (ix3 s b 1) - Ideal.ofBits .f32 0x3F000000#32) (Ideal.ofBits .f32 0x3E93CD3A#32) * x2 (ix2 o 0) := by
  rw [val_main_v9_apply, Fin.sum_univ_one, val_main_v8_apply, val_main_v6_apply, val_main_v7_apply, val_main_cst_0_apply,
    val_main_v5_apply, val_main_cst_apply, val_main_v4_apply]
  have hl : idx_main_v4 (lidx_main_v9 (ix3 s b o) 0) = ix3 s b 1 := funext fun d => by
    match d with
    | ⟨0, _⟩ => rfl
    | ⟨1, _⟩ => rfl
    | ⟨2, _⟩ => rfl
  have hR : ridx_main_v9 (ix3 s b o) 0 = ix2 o 0 := funext fun d => by
    match d with
    | ⟨0, _⟩ => rfl
    | ⟨1, _⟩ => rfl
  rw [hl, hR]
  rfl

/-- The configuration's part of an element: the sum over its 32 lanes. -/
theorem config_apply (x0 : FVec Ideal S2048x128x34 .f32) (x3 : FVec Ideal S256x32 .f32) (s : Fin 2048) (b : Fin 128) (o : Fin 256) :
    val_main_v14 (F := Ideal) x0 x3 (ix3 s b o)
      = ∑ j : Fin 32, x0 (ix3 s b ⟨2 + j.val, by omega⟩) * x3 (ix2 o j) := by
  rw [val_main_v14_apply]
  refine Finset.sum_congr rfl fun j _ => ?_
  have hl : idx_main_v11 (lidx_main_v14 (ix3 s b o) j) = ix3 s b ⟨2 + j.val, by omega⟩ := funext fun d => by
    match d with
    | ⟨0, _⟩ => rfl
    | ⟨1, _⟩ => rfl
    | ⟨2, _⟩ => rfl
  have hR : ridx_main_v14 (ix3 s b o) j = ix2 o j := funext fun d => by
    match d with
    | ⟨0, _⟩ => rfl
    | ⟨1, _⟩ => rfl
  rw [val_main_v13_apply, val_main_v12_apply, val_main_cst_1_apply, val_main_v11_apply, hl, hR]
  show x0 _ * Ideal.ofBits .f32 0x3F800000#32 * _ = _
  rw [one_word, mul_one]

/-- The bias of an element. -/
theorem bias_apply (x4 : FVec Ideal S256 .f32) (s : Fin 2048) (b : Fin 128) (o : Fin 256) :
    val_main_v17 (F := Ideal) x4 (ix3 s b o) = x4 (ix1 o) := by
  rw [val_main_v17_apply, val_main_v16_apply]
  refine congrArg x4 (funext fun d => ?_)
  match d with
  | ⟨0, _⟩ => rfl

/-- An element of the reference's result, when every identifier is in the table: the embedding's row, plus the epoch's
    part, plus the configuration's, plus the bias. -/
theorem reference_apply (x0 : FVec Ideal S2048x128x34 .f32) (x1 : FVec Ideal S1001x256 .f32) (x2 : FVec Ideal S256x1 .f32)
    (x3 : FVec Ideal S256x32 .f32) (x4 : FVec Ideal S256 .f32) (h : InTable x0) (s : Fin 2048) (b : Fin 128) (o : Fin 256) (r : Fin 1001)
    (hr : Ideal.fptosi 32 (x0 (ix3 s b 0)) = BitVec.ofNat 32 r.val) :
    val_main_v18 (F := Ideal) x0 x1 x2 x3 x4 (ix3 s b o)
      = x1 (ix2 r o)
        + Ideal.div (x0 (ix3 s b 1) - Ideal.ofBits .f32 0x3F000000#32) (Ideal.ofBits .f32 0x3E93CD3A#32) * x2 (ix2 o 0)
        + (∑ j : Fin 32, x0 (ix3 s b ⟨2 + j.val, by omega⟩) * x3 (ix2 o j)) + x4 (ix1 o) := by
  rw [val_main_v18_apply, ← bias_apply x4 s b o, ← config_apply x0 x3 s b o, ← epoch_apply x0 x2 s b o, ← take_apply x0 x1 h s b o r hr]
  rfl

end Cert.ReferenceIdeal.Elem

end
-- ==== Proof.KernelIdealValue.lean ====
module

public import proofs.«01_k».proof.Proof.KernelIdealRun
public import proofs.«01_k».proof.Proof.KernelIdealBlock
public import proofs.«01_k».proof.Proof.KernelIdealHost
public import proofs.«01_k».proof.Proof.ReferenceIdealValue

@[expose] public section

set_option maxRecDepth 16384

noncomputable section

namespace Cert.KernelIdeal.Result

open Cert.KernelIdeal Cert.KernelIdeal.Gen Cert.KernelIdeal.Body Cert.KernelIdeal.Run Cert.KernelIdeal.Block Cert.KernelIdeal.Host Cert.Words
open Cert.ReferenceIdeal.Elem (InTable reference_apply)
open Cert.ReferenceIdeal.Read (val_main_v18)
open Idealize.ShloMosaic Idealize.ShloMosaic.TcCoe Idealize.ShloMosaic.ValueIdx Idealize.SL.Sem

/-- The kernel's order of the five summands and the reference's have one sum. -/
theorem sum_order (r e c b n : EReal) : r + (e + c) + (b + n) = r + (e + n) + c + b := by
  abel

/-- An element the body computes is the reference's element: where the block's row `a` is the input's row `s`, every
    identifier is in the table and every epoch's weight is a number. -/
theorem element_eq (x0 : FVec Ideal S2048x128x34 .f32) (x1 : FVec Ideal S1001x256 .f32) (x2 : FVec Ideal S256x1 .f32)
    (x3 : FVec Ideal S256x32 .f32) (x4 : FVec Ideal S256 .f32) (hin : InTable x0) (hfin : ∀ o : Fin 256, ∃ w : ℝ, x2 (ix2 o 0) = (w : EReal))
    (x : Vec Ideal S8x128x34 .f32) (a : Fin 8) (s : Fin 2048) (b : Fin 128) (o : Fin 256) (hx : ∀ j : Fin 34, x (ix3 a b j) = x0 (ix3 s b j)) :
    k0_pay3 (F := Ideal) (table x1) x (weights x2 x3) (bias x2 x4) (ix3 a b o)
      = val_main_v18 (F := Ideal) x0 x1 x2 x3 x4 (ix3 s b o) := by
  obtain ⟨r, hr⟩ := hin s b
  obtain ⟨w, hw⟩ := hfin o
  rw [block_apply x1 x _ _ a b o r ((congrArg (Ideal.fptosi 32) (hx 0)).trans hr), reference_apply x0 x1 x2 x3 x4 hin s b o r hr,
    sum_weights (fun j => x (ix3 a b j)), bias_apply]
  simp only [hx]
  rw [hw, half_word, deviation_word, ← fold_epoch (x0 (ix3 s b 1)) w (1 / 2) (9686330 / 33554432) (by norm_num), sub_eq_add_neg]
  exact sum_order _ _ _ _ _

variable (m : (ℓ : Loc nD τ sig) → Buf (Elt Ideal) ℓ) (ρ : Dev nD → PrngReg)

/-- At point `t` the input's window is at block `t` of the rows, -/
theorem index_in : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
/-- and the output's too, -/
theorem index_out : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)
/-- which is written back at every point. -/
theorem flush_out : ∀ t : Fin cfg0.N, (cfg0.win 4).flush t = true :=
  (by decide +kernel : ∀ t : Fin grid0.N, win0_4.flush t = true)

/-- The input's block at point `t` is its rows from `8 t` on. -/
theorem block_input (c : Dev nD) (t : Fin cfg0.N) (a : Fin 8) (b : Fin 128) (j : Fin 34) (s : Fin 2048) (hs : s.val = t.val * 8 + a.val) :
    (iblk m c 0 t : Vec Ideal S8x128x34 .f32) (ix3 a b j) = m ((c.tc : Thread nD τ).loc main_arg0) (ix3 s b j) := by
  obtain ⟨e0, e1, e2⟩ := index_in t
  refine Eq.trans ?_ (congrFun (V_main_arg0 m c) (ix3 s b j))
  refine congrArg (V m c main_arg0) (funext fun d => Fin.ext ?_)
  match d with
  | ⟨0, _⟩ => show win0_0.index t (0 : Fin 3) * 8 + 1 * a.val = s.val; omega
  | ⟨1, _⟩ => show win0_0.index t (1 : Fin 3) * 128 + 1 * b.val = b.val; omega
  | ⟨2, _⟩ => show win0_0.index t (2 : Fin 3) * 34 + 1 * j.val = j.val; omega

/-- The combined weights' block at any point is the whole array, as the host computed it. -/
theorem block_weights (c : Dev nD) (t : Fin cfg0.N) :
    (iblk m c 2 t : Vec Ideal S34x256 .bf16) = weights (m ((c.tc : Thread nD τ).loc main_arg2)) (m ((c.tc : Thread nD τ).loc main_arg3)) := by
  refine Eq.trans ?_ (entry_weights m c)
  funext y
  refine congrArg (V m c main_v7) (funext fun a => Fin.ext ?_)
  match a with
  | ⟨0, _⟩ => show 0 * 34 + 1 * (y 0).val = (y 0).val; omega
  | ⟨1, _⟩ => show 0 * 256 + 1 * (y 1).val = (y 1).val; omega

/-- The bias's block at any point is the whole array, as the host computed it. -/
theorem block_bias (c : Dev nD) (t : Fin cfg0.N) :
    (iblk m c 3 t : Vec Ideal S1x256 .f32) = bias (m ((c.tc : Thread nD τ).loc main_arg2)) (m ((c.tc : Thread nD τ).loc main_arg4)) := by
  refine Eq.trans ?_ (entry_bias m c)
  funext y
  refine congrArg (V m c main_v13) (funext fun a => Fin.ext ?_)
  match a with
  | ⟨0, _⟩ => show 0 * 1 + 1 * (y 0).val = (y 0).val; omega
  | ⟨1, _⟩ => show 0 * 256 + 1 * (y 1).val = (y 1).val; omega

/-- The reference's result on the kernel's arguments. -/
def wanted (c : Dev nD) : FVec Ideal S2048x128x256 .f32 :=
  val_main_v18 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

section Whole

variable (c : Dev nD) (hin : InTable (m ((c.tc : Thread nD τ).loc main_arg0)))
  (hfin : ∀ o : Fin 256, ∃ w : ℝ, m ((c.tc : Thread nD τ).loc main_arg2) (ix2 o 0) = (w : EReal))

include hin hfin in
/-- What point `t` writes back is block `t` of the reference's result. -/
theorem flushed_eq (t : Fin cfg0.N) : (dats m 0 c).flushed 4 t = ((cfg0.win 4).blk t).view.read (Elt Ideal) (wanted m c) := by
  show (cfg0.win 4).cut (grid0.coords t) ((dats m 0 c).after 4 t) = _
  rw [after4]
  obtain ⟨e0, e1, e2⟩ := index_out t
  have ht : t.val < 256 := Nat.lt_of_lt_of_eq t.isLt N_0
  funext y
  have hy0 : (y 0).val < 8 := (y 0).isLt
  have hy1 : (y 1).val < 128 := (y 1).isLt
  have hy2 : (y 2).val < 256 := (y 2).isLt
  have hl : (cfg0.win 4).xinj (grid0.coords t) y = ix3 (⟨(y 0).val, hy0⟩ : Fin 8) (⟨(y 1).val, hy1⟩ : Fin 128) (⟨(y 2).val, hy2⟩ : Fin 256) := by
    funext d; apply Fin.ext
    match d with
    | ⟨0, _⟩ => rfl
    | ⟨1, _⟩ => rfl
    | ⟨2, _⟩ => rfl
  have he : ((cfg0.win 4).blk t).view.emb y
      = ix3 (⟨t.val * 8 + (y 0).val, by omega⟩ : Fin 2048) (⟨(y 1).val, hy1⟩ : Fin 128) (⟨(y 2).val, hy2⟩ : Fin 256) := by
    funext d; apply Fin.ext
    match d with
    | ⟨0, _⟩ => show win0_4.index t (0 : Fin 3) * 8 + 1 * (y 0).val = t.val * 8 + (y 0).val; omega
    | ⟨1, _⟩ => show win0_4.index t (1 : Fin 3) * 128 + 1 * (y 1).val = (y 1).val; omega
    | ⟨2, _⟩ => show win0_4.index t (2 : Fin 3) * 256 + 1 * (y 2).val = (y 2).val; omega
  show block m c t ((cfg0.win 4).xinj (grid0.coords t) y) = wanted m c (((cfg0.win 4).blk t).view.emb y)
  rw [hl, he]
  unfold block wanted tab
  rw [block_weights, block_bias]
  exact element_eq _ _ _ _ _ hin hfin _ _ _ _ _ fun j => block_input m c t _ _ j _ rfl

/-- Every index of the result lies in the block of the point its row falls to. -/
theorem covered (i : S2048x128x256.Idx) : ∃ t : Fin cfg0.N, (cfg0.win 4).flush t = true ∧ i ∈ ((cfg0.win 4).blk t).view.set := by
  have h0 : (i 0).val < 2048 := (i 0).isLt
  have h1 : (i 1).val < 128 := (i 1).isLt
  have h2 : (i 2).val < 256 := (i 2).isLt
  let t : Fin cfg0.N := ⟨(i 0).val / 8, Nat.lt_of_lt_of_eq (by omega) N_0.symm⟩
  obtain ⟨e0, e1, e2⟩ := index_out t
  have e : t.val = (i 0).val / 8 := rfl
  refine ⟨t, flush_out t, ?_⟩
  show i ∈ ((View.whole main_v14).slice (win0_4.rect t)).set
  rw [View.set_slice_whole, Rect.mem_set_unit]
  intro d
  match d with
  | ⟨0, _⟩ => show win0_4.index t (0 : Fin 3) * 8 ≤ (i 0).val ∧ (i 0).val < win0_4.index t (0 : Fin 3) * 8 + 8; omega
  | ⟨1, _⟩ => show win0_4.index t (1 : Fin 3) * 128 ≤ (i 1).val ∧ (i 1).val < win0_4.index t (1 : Fin 3) * 128 + 128; omega
  | ⟨2, _⟩ => show win0_4.index t (2 : Fin 3) * 256 ≤ (i 2).val ∧ (i 2).val < win0_4.index t (2 : Fin 3) * 256 + 256; omega

include hin hfin in
/-- The result array after the last point is the reference's result. -/
theorem result_eq : (dats m 0 c).arrAt 4 cfg0.N = wanted m c :=
  (dats m 0 c).arrAt_eq_of_cover 4 _ (fun t _ => flushed_eq m c hin hfin t) covered

end Whole

/-- The kernel's run, where on every core the identifiers are in the table and the epoch's weights are numbers: the result
    array ends at the reference's result, and the arguments end as they were. -/
theorem run (hin : ∀ c : Dev nD, InTable (m ((c.tc : Thread nD τ).loc main_arg0)))
    (hfin : ∀ (c : Dev nD) (o : Fin 256), ∃ w : ℝ, m ((c.tc : Thread nD τ).loc main_arg2) (ix2 o 0) = (w : EReal)) :
    θ_run defs (onTc (τ := τ) (main (F := Ideal))) ⟨m, fun _ => 0, ρ⟩ fun r => ∀ c : Dev nD,
      r.2.mem ((c.tc : Thread nD τ).loc main_v14) = wanted m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 4).trans (result_eq m c (hin c) (hfin c)), h.2.1 c⟩)
    (θ_run_and ((θ_run defs _ _).mono (fun _ h => h.1) (launched (F := Ideal) m ρ)) (Cert.KernelIdeal.Run.frame (F := Ideal) m ρ))

end Cert.KernelIdeal.Result

end
-- ==== Proof.Precondition.lean ====
module

public import proofs.«01_k».proof.Proof.Gen.Pre_ids_in_table
public import proofs.«01_k».proof.Proof.ReferenceIdealValue

@[expose] public section

noncomputable section

namespace Cert.Precondition

open Cert.Words Cert.ReferenceIdeal.Elem
open Cert.ReferenceIdeal (S2048x128x34 S1001x256 S256x1 S256x32 S256)
open Idealize.ShloMosaic Idealize.ShloMosaic.ValueIdx

/-- Two bits whose conjunction is 1 are both 1. -/
theorem and_one (p q : BitVec 1) (h : IntOp.andi p q = 1#1) : p = 1#1 ∧ q = 1#1 := by
  revert p q; decide

/-- A test's bit is 1 exactly where the test holds. -/
theorem of_bit (p : Bool) (h : BitVec.ofBool p = 1#1) : p = true := by
  cases p
  · exact absurd h (by decide)
  · rfl

/-- A word that is at least 0 and below 1001, read signed, is one of the first 1001 numbers. -/
theorem word_in_table (w : BitVec 32) (h0 : IntOp.cmpi .sge w 0#32 = 1#1) (h1 : IntOp.cmpi .slt w 1001#32 = 1#1) :
    ∃ r : Fin 1001, w = BitVec.ofNat 32 r.val := by
  have a0 : BitVec.sle 0#32 w = true := of_bit _ h0
  have a1 : BitVec.slt w 1001#32 = true := of_bit _ h1
  rw [BitVec.sle_eq_decide, decide_eq_true_eq] at a0
  rw [BitVec.slt_eq_decide, decide_eq_true_eq] at a1
  have e0 : (0#32).toInt = 0 := by decide
  have e1 : (1001#32).toInt = 1001 := by decide
  rw [e0] at a0; rw [e1] at a1
  have hc := BitVec.toInt_eq_toNat_cond w
  have hl := w.isLt
  have hn : w.toNat < 1001 := by
    by_cases hw : 2 * w.toNat < 2 ^ 32
    · rw [if_pos hw] at hc; omega
    · rw [if_neg hw] at hc; omega
  exact ⟨⟨w.toNat, hn⟩, BitVec.eq_of_toNat_eq (by rw [BitVec.toNat_ofNat, Nat.mod_eq_of_lt hl])⟩

/-- An extended real strictly between the infinities is a real number. -/
theorem finite (x : EReal) (h0 : Ideal.cmp .ogt x ⊥ = 1#1) (h1 : Ideal.cmp .olt x ⊤ = 1#1) : ∃ w : ℝ, x = (w : EReal) := by
  have a0 : ⊥ < x := of_decide_eq_true (of_bit _ h0)
  have a1 : x < ⊤ := of_decide_eq_true (of_bit _ h1)
  exact ⟨x.toReal, (EReal.coe_toReal a1.ne a0.ne').symm⟩

variable [Cert.Pre_ids_in_table.Facts]
variable (x0 : FVec Ideal S2048x128x34 .f32) (x1 : FVec Ideal S1001x256 .f32) (x2 : FVec Ideal S256x1 .f32)
  (x3 : FVec Ideal S256x32 .f32) (x4 : FVec Ideal S256 .f32)

/-- Under the precondition every identifier is a row of the table, -/
theorem in_table (h : (Cert.Pre_ids_in_table.fn (F := Ideal) x0 x1 x2 x3 x4).1 = fun _ => 1#1) : InTable x0 := fun s b => by
  have hb : IntOp.andi (IntOp.cmpi .sge (Cert.ReferenceIdeal.Read.val_main_v2 (F := Ideal) x0 (ix2 s b)) 0#32)
      (IntOp.cmpi .slt (Cert.ReferenceIdeal.Read.val_main_v2 (F := Ideal) x0 (ix2 s b)) 1001#32) = 1#1 := congrFun h (ix2 s b)
  rw [ident_apply] at hb
  obtain ⟨h0, h1⟩ := and_one _ _ hb
  exact word_in_table _ h0 h1

/-- and every epoch's weight is a number. -/
theorem finite_weights (h : (Cert.Pre_ids_in_table.fn (F := Ideal) x0 x1 x2 x3 x4).2 = fun _ => 1#1) (o : Fin 256) :
    ∃ w : ℝ, x2 (ix2 o 0) = (w : EReal) := by
  have hb : IntOp.andi (Ideal.cmp .ogt (x2 (ix2 o 0)) (Ideal.ofBits .f32 0xFF800000#32))
      (Ideal.cmp .olt (x2 (ix2 o 0)) (Ideal.ofBits .f32 0x7F800000#32)) = 1#1 := congrFun h (ix2 o 0)
  rw [bot_word, top_word] at hb
  obtain ⟨h0, h1⟩ := and_one _ _ hb
  exact finite _ h0 h1

end Cert.Precondition

end
-- ==== Proof.lean ====
/- The claims of this certificate: the kernel's frame as printed and over the extended reals, the reference's frame, the
   (empty) list of rewrites, and the equality of the two results.

   The kernel's launch is in Proof/KernelRun.lean (as printed) and Proof/KernelIdealRun.lean (over the extended reals);
   what one block computes is in Proof/KernelIdealBlock.lean, what the host prepares in Proof/KernelIdealHost.lean, what
   the reference computes in Proof/ReferenceIdealValue.lean, the equation in Proof/KernelIdealValue.lean, and what the
   precondition gives in Proof/Precondition.lean. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ids_in_table
public import proofs.«01_k».proof.Proof.KernelRun
public import proofs.«01_k».proof.Proof.KernelIdealRun
public import proofs.«01_k».proof.Proof.KernelIdealValue
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

section Reference

open Cert.ReferenceIdeal Cert.ReferenceIdeal.Gen

variable (m : (ℓ : Loc nD τ sig) → Buf (Elt Ideal) ℓ) (ρ : Dev nD → PrngReg)

/-- The reference's run leaves its arguments as they were; it has no semaphore, so every counter is zero. -/
theorem reference_frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, sem_eq_zero_of_no_sems (by decide) r.2⟩)
    (Cert.ReferenceIdeal.Value.run (F := Ideal) m ρ)

end Reference

section Equation

open Cert.KernelIdeal Cert.KernelIdeal.Gen

/-- From memories that agree on the arguments, where the precondition holds, the kernel and the reference end with the same
    array: the table's row, the normalised epoch times its weight, the configuration's product and its bias, at every index. -/
theorem equation : Cert.algebraic_KernelIdeal_ReferenceIdeal_pre_ids_in_table
    (hKernelIdeal := Cert.KernelIdeal.Gen.facts) (hReferenceIdeal := Cert.ReferenceIdeal.Gen.facts)
    (hPre_ids_in_table := Cert.Pre_ids_in_table.Gen.facts) := by
  intro m ρ m' ρ' hpre hargs
  letI := Cert.Pre_ids_in_table.Gen.facts
  refine ⟨fun c => Cert.KernelIdeal.Result.wanted m c,
    Cert.KernelIdeal.Result.run m ρ (fun c => Cert.Precondition.in_table _ _ _ _ _ (hpre c).1)
      (fun c => Cert.Precondition.finite_weights _ _ _ _ _ (hpre c).2),
    (θ_run Cert.ReferenceIdeal.defs _ _).mono (fun r h c => ⟨?_, (h c).2⟩) (Cert.ReferenceIdeal.Value.run (F := Ideal) m' ρ')⟩
  obtain ⟨a0, a1, a2, a3, a4⟩ := hargs c
  refine (h c).1.trans ((Cert.ReferenceIdeal.Read.val_main_v18_eq (F := Ideal) _ _ _ _ _).trans ?_)
  rw [a0, a1, a2, a3, a4]
  rfl

end Equation

/-- All claims together. -/
theorem claim : Cert.Claim := ⟨Cert.Kernel.Gen.facts, Cert.KernelIdeal.Gen.facts, Cert.ReferenceIdeal.Gen.facts, Cert.Pre_ids_in_table.Gen.facts,
  fun m ρ _ => Cert.Kernel.Run.frame m ρ,
  fun m ρ _ => Cert.KernelIdeal.Run.frame m ρ,
  fun m ρ _ => Cert.KernelIdeal.Run.frame m ρ,
  fun m ρ _ => reference_frame m ρ,
  fun m ρ _ => reference_frame m ρ,
  trivial,
  equation⟩

end Cert.Proof

end
